-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x8192 : Shape := ⟨3, ![4, 2048, 8192]⟩
abbrev S1024x25600 : Shape := ⟨2, ![1024, 25600]⟩
abbrev S_ : Shape := ⟨0, ![]⟩
abbrev S1 : Shape := ⟨1, ![1]⟩
abbrev S8192x8192 : Shape := ⟨2, ![8192, 8192]⟩
abbrev S8192x25600 : Shape := ⟨2, ![8192, 25600]⟩
abbrev S512x8192 : Shape := ⟨2, ![512, 8192]⟩
abbrev S1024x1024 : Shape := ⟨2, ![1024, 1024]⟩
abbrev S512x1024 : Shape := ⟨2, ![512, 1024]⟩
abbrev S8192x1024 : Shape := ⟨2, ![8192, 1024]⟩
abbrev S32x1024 : Shape := ⟨2, ![32, 1024]⟩
abbrev S16x1024 : Shape := ⟨2, ![16, 1024]⟩
abbrev S8192x512 : Shape := ⟨2, ![8192, 512]⟩
abbrev S512x512 : Shape := ⟨2, ![512, 512]⟩
abbrev S4x2048x25600 : Shape := ⟨3, ![4, 2048, 25600]⟩

abbrev nBuf : Space → Nat
  | .hbm => 8
  | .vmem => 9
  | .smem => 1
  | _ => 0

abbrev bufTy : (tb : Table) → Fin (tcTables nBuf tb) → BufTy
  | .hbm, ⟨0, _⟩ => ⟨S4x2048x8192, .bf16⟩
  | .hbm, ⟨1, _⟩ => ⟨S1024x25600, .i8⟩
  | .hbm, ⟨2, _⟩ => ⟨S1024x25600, .i8⟩
  | .hbm, ⟨3, _⟩ => ⟨S_, .f32⟩
  | .hbm, ⟨4, _⟩ => ⟨S1, .f32⟩
  | .hbm, ⟨5, _⟩ => ⟨S8192x8192, .bf16⟩
  | .hbm, ⟨6, _⟩ => ⟨S8192x25600, .bf16⟩
  | .hbm, ⟨7, _⟩ => ⟨S4x2048x25600, .bf16⟩
  | .local _ .vmem, ⟨0, _⟩ => ⟨S512x8192, .bf16⟩
  | .local _ .vmem, ⟨1, _⟩ => ⟨S512x8192, .bf16⟩
  | .local _ .vmem, ⟨2, _⟩ => ⟨S1024x1024, .i8⟩
  | .local _ .vmem, ⟨3, _⟩ => ⟨S1024x1024, .i8⟩
  | .local _ .vmem, ⟨4, _⟩ => ⟨S1024x1024, .i8⟩
  | .local _ .vmem, ⟨5, _⟩ => ⟨S1024x1024, .i8⟩
  | .local _ .vmem, ⟨6, _⟩ => ⟨S512x1024, .bf16⟩
  | .local _ .vmem, ⟨7, _⟩ => ⟨S512x1024, .bf16⟩
  | .local _ .vmem, ⟨8, _⟩ => ⟨S8192x1024, .bf16⟩
  | .local _ .smem, ⟨0, _⟩ => ⟨S1, .f32⟩
  | _, _ => ⟨S4x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![25, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_14 : BitVec 32 := 0#32
  let c32_i32 : BitVec 32 := 32#32
  let v21 : BitVec 32 := Scalar.addi c0_i32_14 c32_i32
  let c1_i32 : BitVec 32 := 1#32
  ⟨c0_i32_14, v21, c1_i32⟩
def k0_mult1 (k0_t1 : Fin k0_t1_loop.trips) : BitVec 32 :=
  let c0_i32_14 : BitVec 32 := 0#32
  let c1_i32 : BitVec 32 := 1#32
  let arg8 : BitVec 32 := Scf.iv c0_i32_14 c1_i32 k0_t1
  let c32_i32_16 : BitVec 32 := 32#32
  let v22 : BitVec 32 := Scalar.muli arg8 c32_i32_16
  v22
def k0_off1 (k0_t1 : Fin k0_t1_loop.trips) : Fin 2 → Nat :=
  let c0_i32_14 : BitVec 32 := 0#32
  let c1_i32 : BitVec 32 := 1#32
  let arg8 : BitVec 32 := Scf.iv c0_i32_14 c1_i32 k0_t1
  let c32_i32_16 : BitVec 32 := 32#32
  let v22 : BitVec 32 := Scalar.muli arg8 c32_i32_16
  let v23 : BitVec 32 := v22
  let v24 : Index := Scalar.indexCast v23
  let c0_17 : Index := 0#32
  ![v24.toNat, 0]
def k0_off2 (k0_t1 : Fin k0_t1_loop.trips) (c0_i32_58 : BitVec 32) : Fin 2 → Nat :=
  let c0_i32_14 : BitVec 32 := 0#32
  let c1_i32 : BitVec 32 := 1#32
  let arg8 : BitVec 32 := Scf.iv c0_i32_14 c1_i32 k0_t1
  let c32_i32_16 : BitVec 32 := 32#32
  let v22 : BitVec 32 := Scalar.muli arg8 c32_i32_16
  let v23 : BitVec 32 := v22
  let v162 : BitVec 32 := Scalar.addi c0_i32_58 v23
  let v163 : Index := Scalar.indexCast v162
  let c0_59 : Index := 0#32
  ![v163.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x2048x8192 : Shape := ⟨3, ![4, 2048, 8192]⟩
abbrev S1024x25600 : Shape := ⟨2, ![1024, 25600]⟩
abbrev S_ : Shape := ⟨0, ![]⟩
abbrev S8 : Shape := ⟨1, ![8]⟩
abbrev S8x1x1 : Shape := ⟨3, ![8, 1, 1]⟩
abbrev S1x1024x25600 : Shape := ⟨3, ![1, 1024, 25600]⟩
abbrev S8x1024x25600 : Shape := ⟨3, ![8, 1024, 25600]⟩
abbrev S4x2048x8x1024 : Shape := ⟨4, ![4, 2048, 8, 1024]⟩
abbrev S4x2048x25600 : Shape := ⟨3, ![4, 2048, 25600]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x8192, .bf16⟩
  | .hbm, ⟨1, _⟩ => ⟨S1024x25600, .i8⟩
  | .hbm, ⟨2, _⟩ => ⟨S1024x25600, .i8⟩
  | .hbm, ⟨3, _⟩ => ⟨S_, .f32⟩
  | .hbm, ⟨4, _⟩ => ⟨S8, .i32⟩
  | .hbm, ⟨5, _⟩ => ⟨S8x1x1, .i32⟩
  | .hbm, ⟨6, _⟩ => ⟨S1024x25600, .i32⟩
  | .hbm, ⟨7, _⟩ => ⟨S1x1024x25600, .i32⟩
  | .hbm, ⟨8, _⟩ => ⟨S8x1024x25600, .i32⟩
  | .hbm, ⟨9, _⟩ => ⟨S8x1024x25600, .i32⟩
  | .hbm, ⟨10, _⟩ => ⟨S8x1024x25600, .i32⟩
  | .hbm, ⟨11, _⟩ => ⟨S_, .i32⟩
  | .hbm, ⟨12, _⟩ => ⟨S8x1024x25600, .i32⟩
  | .hbm, ⟨13, _⟩ => ⟨S8x1024x25600, .i32⟩
  | .hbm, ⟨14, _⟩ => ⟨S1024x25600, .i32⟩
  | .hbm, ⟨15, _⟩ => ⟨S1x1024x25600, .i32⟩
  | .hbm, ⟨16, _⟩ => ⟨S8x1024x25600, .i32⟩
  | .hbm, ⟨17, _⟩ => ⟨S8x1024x25600, .i32⟩
  | .hbm, ⟨18, _⟩ => ⟨S8x1024x25600, .i32⟩
  | .hbm, ⟨19, _⟩ => ⟨S_, .i32⟩
  | .hbm, ⟨20, _⟩ => ⟨S8x1024x25600, .i32⟩
  | .hbm, ⟨21, _⟩ => ⟨S8x1024x25600, .i32⟩
  | .hbm, ⟨22, _⟩ => ⟨S_, .i32⟩
  | .hbm, ⟨23, _⟩ => ⟨S8x1024x25600, .i32⟩
  | .hbm, ⟨24, _⟩ => ⟨S8x1024x25600, .i32⟩
  | .hbm, ⟨25, _⟩ => ⟨S_, .i32⟩
  | .hbm, ⟨26, _⟩ => ⟨S8x1024x25600, .i32⟩
  | .hbm, ⟨27, _⟩ => ⟨S8x1024x25600, .i32⟩
  | .hbm, ⟨28, _⟩ => ⟨S8x1024x25600, .i32⟩
  | .hbm, ⟨29, _⟩ => ⟨S8x1024x25600, .bf16⟩
  | .hbm, ⟨30, _⟩ => ⟨S4x2048x8x1024, .bf16⟩
  | .hbm, ⟨31, _⟩ => ⟨S4x2048x25600, .f32⟩
  | .hbm, ⟨32, _⟩ => ⟨S4x2048x25600, .f32⟩
  | .hbm, ⟨33, _⟩ => ⟨S4x2048x25600, .f32⟩
  | .hbm, ⟨34, _⟩ => ⟨S4x2048x25600, .bf16⟩
  | _, _ => ⟨S4x2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Proof.Trit.lean ====
/-
  One trit out of its two bits. A weight is `nz ? (sg ? -1 : 1) : 0`, with `nz` and `sg` bit `j` of a byte of the
  two weight arrays. The kernel decodes two weights of a column at once, in the two 16-bit halves of a 32-bit word;
  the reference shifts and masks each byte as an integer. Here both are read as `trit`.
-/
module

public import proofs.«01_k».proof.Proof.Gen.KernelIdeal.Skeleton
public import Idealize.ShloMosaic.Lib.BitcastPair
public import Idealize.ShloMosaic.Lib.IdealHost

@[expose] public section

set_option maxRecDepth 16384

noncomputable section

namespace Cert.Trit

open Idealize.ShloMosaic Idealize.SL.Sem Cert.KernelIdeal Cert.KernelIdeal.Gen

/-- The weight that bit `j` of the two bytes encodes, as an extended real. -/
def trit (nz sg : BitVec 8) (j : ℕ) : EReal :=
  if nz.getLsbD j then (if sg.getLsbD j then ((-(1 : ℝ) : ℝ) : EReal) else 1) else 0

/-! ## The kernel's decode of a word -/

/-- The decode of plane `j` of one word: the bits of two bf16 numbers. -/
def planeWord (w j : BitVec 32) : BitVec 32 :=
  ((((w >>> j) &&& 65537#32) <<< 14) - (((w >>> j) &&& 65537#32) <<< 7))
    ||| (((w >>> j) <<< 7) &&& (((w >>> j) &&& 65537#32) <<< 15))

/-- The bf16 pattern of a weight, from its two bits. -/
def code (n s : Bool) : BitVec 16 := if n then (if s then 0xBF80#16 else 0x3F80#16) else 0#16

/-- The word of two decoded weights depends on four bits of `w` only. -/
theorem planeWord_eq (w : BitVec 32) (j : ℕ) (hj : j < 8) :
    planeWord w (BitVec.ofNat 32 j)
      = code (w.getLsbD (16 + j)) (w.getLsbD (24 + j)) ++ code (w.getLsbD j) (w.getLsbD (8 + j)) := by
  have e : w >>> BitVec.ofNat 32 j = w >>> j := by
    show w >>> (BitVec.ofNat 32 j).toNat = w >>> j
    rw [BitVec.toNat_ofNat, Nat.mod_eq_of_lt (by omega)]
  have hm : (w >>> j) &&& 65537#32
      = (if w.getLsbD j then 1#32 else 0#32) ||| (if w.getLsbD (16 + j) then 65536#32 else 0#32) := by
    apply BitVec.eq_of_getLsbD_eq
    intro i hi
    rw [BitVec.getLsbD_and, BitVec.getLsbD_or, BitVec.getLsbD_ushiftRight, Nat.add_comm j i]
    interval_cases i <;> cases h0 : w.getLsbD j <;> cases h1 : w.getLsbD (16 + j) <;> simp_all <;> decide
  have hs : ((w >>> j) <<< 7) &&& 0x80008000#32
      = (if w.getLsbD (8 + j) then 0x8000#32 else 0#32) ||| (if w.getLsbD (24 + j) then 0x80000000#32 else 0#32) := by
    apply BitVec.eq_of_getLsbD_eq
    intro i hi
    rw [BitVec.getLsbD_and, BitVec.getLsbD_or, BitVec.getLsbD_shiftLeft, BitVec.getLsbD_ushiftRight]
    interval_cases i <;> cases h0 : w.getLsbD (8 + j) <;> cases h1 : w.getLsbD (24 + j) <;>
      simp_all [Nat.add_comm j] <;> decide
  have hand : ∀ m : BitVec 32, m &&& 0x80008000#32 = m → ((w >>> j) <<< 7) &&& m
      = (((w >>> j) <<< 7) &&& 0x80008000#32) &&& m := fun m h => by
    rw [BitVec.and_assoc, BitVec.and_comm (0x80008000#32) m, h]
  unfold planeWord
  rw [e, hm]
  rw [hand _ (by cases w.getLsbD j <;> cases w.getLsbD (16 + j) <;> decide), hs]
  cases w.getLsbD j <;> cases w.getLsbD (16 + j) <;> cases w.getLsbD (8 + j) <;> cases w.getLsbD (24 + j) <;> decide

/-- The bf16 that a weight's pattern denotes. -/
theorem ofBits_code (n s : Bool) :
    Ideal.ofBits .bf16 (code n s) = (if n then (if s then ((-(1 : ℝ) : ℝ) : EReal) else 1) else 0) := by
  cases n <;> cases s <;> simp only [code, if_true, if_false, Bool.false_eq_true]
  · exact Ideal.ofBits_zero_bf16
  · exact Ideal.ofBits_zero_bf16
  · exact Ideal.ofBits_one_bf16
  · exact Ideal.ofBits_neg_one_bf16

/-- A half of the word of two sixteen-bit numbers. -/
theorem half_append (a b : BitVec 16) (p : ℕ) (hp : p < 2) :
    (a ++ b).extractLsb' (16 * p) 16 = if p = 0 then b else a := by
  apply BitVec.eq_of_getLsbD_eq
  intro i hi
  rw [BitVec.getLsbD_extractLsb', BitVec.getLsbD_append]
  have : p = 0 ∨ p = 1 := by omega
  rcases this with rfl | rfl
  · simp [hi]
  · simp [hi]

/-! ## The reference's decode -/

theorem shrsi_bit (b : BitVec 8) (j : ℕ) (hj : j < 8) :
    IntOp.andi (IntOp.shrsi .host (b.setWidth 32) (BitVec.ofNat 32 j)) 1#32 = if b.getLsbD j then 1#32 else 0#32 := by
  have hlt : (BitVec.ofNat 32 j).toNat = j := by
    rw [BitVec.toNat_ofNat, Nat.mod_eq_of_lt (by omega)]
  unfold IntOp.andi IntOp.shrsi
  rw [if_pos (by rw [hlt]; omega)]
  have hm : (b.setWidth 32).msb = false := by
    rw [BitVec.msb_setWidth]; simp
  rw [BitVec.sshiftRight', hlt, BitVec.sshiftRight_eq_of_msb_false hm]
  apply BitVec.eq_of_getLsbD_eq
  intro i hi
  rw [BitVec.getLsbD_and, BitVec.getLsbD_ushiftRight]
  interval_cases i <;> cases h : b.getLsbD j <;> simp_all <;> omega

theorem sitofp_trit (nz sg : BitVec 8) (j : ℕ) (hj : j < 8) :
    FloatOps.sitofp (F := Ideal) .bf16 (IntOp.muli (IntOp.andi (IntOp.shrsi .host (nz.setWidth 32) (BitVec.ofNat 32 j)) 1#32)
      (IntOp.subi 1#32 (IntOp.muli 2#32 (IntOp.andi (IntOp.shrsi .host (sg.setWidth 32) (BitVec.ofNat 32 j)) 1#32))))
      = trit nz sg j := by
  rw [shrsi_bit nz j hj, shrsi_bit sg j hj]
  unfold trit
  have key : ∀ n s : Bool, (IntOp.muli (if n then 1#32 else 0#32)
      (IntOp.subi 1#32 (IntOp.muli 2#32 (if s then 1#32 else 0#32)))).toInt = if n then (if s then -1 else 1) else 0 := by
    decide
  show (((IntOp.muli _ _ : BitVec 32).toInt : ℝ) : EReal) = _
  rw [key]
  cases nz.getLsbD j <;> cases sg.getLsbD j <;> simp

end Cert.Trit

end
-- ==== Proof.Decode.lean ====
/-
  The decoded panel. At the first point of a panel the kernel fills its scratch with the 8192 × 1024 weights that
  the panel's two 1024 × 1024 byte blocks encode: row `j * 1024 + r` is bit plane `j` of byte row `r`. It does so in
  32 trips of eight stores. Here every store is read at an index, and so is the scratch after the last trip.
-/
module

public import proofs.«01_k».proof.Proof.Trit
public import proofs.«01_k».proof.Proof.Gen.KernelIdeal.Frame
public import Idealize.ShloMosaic.Lib.Pipeline.ValueKit.Tiles

@[expose] public section

set_option maxRecDepth 16384

noncomputable section

namespace Cert.Decode

open Idealize.ShloMosaic Idealize.ShloMosaic.TcCoe Idealize.ShloMosaic.Tactic Idealize.SL.Sem
open Idealize.ShloMosaic.ValueIdx Cert.KernelIdeal Cert.KernelIdeal.Gen Cert.Trit

/-- Plane `j` of a block of packed words, as the kernel computes it. -/
def plane (j : BitVec 32) (w : IVec S16x1024 32) : FVec Ideal S32x1024 .bf16 :=
  bitcastToFloat .bf16 (bitcast S32x1024 16 (fun i => planeWord (w i) j) bitcasts_S16x1024_w32_S32x1024_w16)

/-- Sixteen bits of a weight pair: the byte of the nonzero bits low, the byte of the sign bits high. -/
def pair16 (nz sg : BitVec 8) : BitVec 16 := nz.setWidth 16 ||| (sg.setWidth 16 <<< 8)

theorem pair16_lo (nz sg : BitVec 8) (j : ℕ) (hj : j < 8) : (pair16 nz sg).getLsbD j = nz.getLsbD j := by
  unfold pair16
  rw [BitVec.getLsbD_or, BitVec.getLsbD_shiftLeft, BitVec.getLsbD_setWidth]
  simp [hj, show j < 16 by omega]

theorem pair16_hi (nz sg : BitVec 8) (j : ℕ) (hj : j < 8) : (pair16 nz sg).getLsbD (8 + j) = sg.getLsbD j := by
  unfold pair16
  rw [BitVec.getLsbD_or, BitVec.getLsbD_shiftLeft, BitVec.getLsbD_setWidth, BitVec.getLsbD_setWidth]
  rw [BitVec.getLsbD_of_ge nz (8 + j) (by omega)]
  simp [show 8 + j < 16 by omega, show ¬ 8 + j < 8 by omega, show j < 16 by omega]

/-- The packed words of a block: two pairs of a column to a word. -/
theorem pay5_apply (a b : Vec Ideal S32x1024 .i8) :
    k0_pay5 (F := Ideal) a b
      = bitcast S16x1024 32 (fun i => pair16 (a i) (b i)) bitcasts_S32x1024_w16_S16x1024_w32 := by
  unfold k0_pay5
  rfl

/-- A plane of a packed block, at an index: the weight that the two bytes there encode. -/
theorem plane_apply (a b : Vec Ideal S32x1024 .i8) (j : ℕ) (hj : j < 8) (i : S32x1024.Idx) :
    plane (BitVec.ofNat 32 j) (k0_pay5 (F := Ideal) a b) i = trit (a i) (b i) j := by
  rw [pay5_apply]
  generalize hc : (fun i => pair16 (a i) (b i) : S32x1024.Idx → BitVec 16) = c
  have hbit : Ideal.ofBits .bf16 (code ((c i).getLsbD j) ((c i).getLsbD (8 + j))) = trit (a i) (b i) j := by
    rw [ofBits_code, ← hc]
    show (if (pair16 (a i) (b i)).getLsbD j then (if (pair16 (a i) (b i)).getLsbD (8 + j) then _ else _) else _) = _
    rw [pair16_lo _ _ _ hj, pair16_hi _ _ _ hj]; rfl
  rw [← hbit]
  show Ideal.ofBits .bf16 (bitcast S32x1024 16 _ _ i) = _
  congr 1
  rw [bitcast_32_16]
  rw [planeWord_eq _ _ hj, half_append _ _ _ (Nat.mod_lt _ (by decide)), bitcast_16_32]
  have hrow : Shape.row S32x1024 i = (i 0).val := rfl
  have hsrc : ∀ (p : ℕ) (hp) (h2), p = (i 0).val →
      bitcasts_S32x1024_w16_S16x1024_w32.srcIdx
        (bitcasts_S16x1024_w32_S32x1024_w16.srcIdx i ((Shape.row S32x1024 i) / 2) hp) p h2 = i := by
    intro p hp h2 hpi
    funext a
    apply Fin.ext
    match a with
    | ⟨0, _⟩ => rw [Shape.Bitcasts.srcIdx_row _ _ _ _ _ rfl]; exact hpi
    | ⟨1, _⟩ =>
      rw [Shape.Bitcasts.srcIdx_other _ _ _ _ _ (show ¬ 1 + 2 = 2 by decide)]
      exact Shape.Bitcasts.srcIdx_other _ _ _ _ _ (show ¬ 1 + 2 = 2 by decide)
  have hr2 : ∀ hp, Shape.row S16x1024 (bitcasts_S16x1024_w32_S32x1024_w16.srcIdx i ((Shape.row S32x1024 i) / 2) hp)
      = (i 0).val / 2 := by
    intro hp
    exact Shape.Bitcasts.srcIdx_row _ _ _ _ 0 rfl
  by_cases hp : Shape.row S32x1024 i % 2 = 0
  · rw [if_pos hp, BitVec.getLsbD_append, BitVec.getLsbD_append, if_pos (by omega), if_pos (by omega),
      hsrc _ _ _ (by rw [hr2]; omega)]
  · rw [if_neg hp, BitVec.getLsbD_append, BitVec.getLsbD_append, if_neg (by omega), if_neg (by omega),
      hsrc _ _ _ (by rw [hr2]; omega), show 16 + j - 16 = j by omega, show 24 + j - 16 = 8 + j by omega]

/-! ## The stores of a trip -/

/-- The weight at an index of the panel: plane `row / 1024` of byte row `row % 1024`. -/
def panel (x2 x3 : Vec Ideal S1024x1024 .i8) (y : S8192x1024.Idx) : EReal :=
  trit (x2 (ix2 ⟨(y 0).val % 1024, Nat.mod_lt _ (by decide)⟩ (y 1)))
    (x3 (ix2 ⟨(y 0).val % 1024, Nat.mod_lt _ (by decide)⟩ (y 1))) ((y 0).val / 1024)

/-! The eight payloads of a trip are the eight planes of the trip's packed words. -/

theorem pay_0 (a b : Vec Ideal S32x1024 .i8) : k0_pay22 (k0_pay6 a b) = plane (BitVec.ofNat 32 0) (k0_pay5 (F := Ideal) a b) := by
  unfold k0_pay22; rw [shapeCast_self]; rfl
theorem pay_1 (a b : Vec Ideal S32x1024 .i8) : k0_pay23 (k0_pay8 (k0_pay7 a b)) = plane (BitVec.ofNat 32 1) (k0_pay5 (F := Ideal) a b) := by
  unfold k0_pay23; rw [shapeCast_self]; rfl
theorem pay_2 (w : IVec S16x1024 32) : k0_pay24 (F := Ideal) (k0_pay9 w) = plane (BitVec.ofNat 32 2) w := by
  unfold k0_pay24; rw [shapeCast_self]; rfl
theorem pay_3 (w : IVec S16x1024 32) : k0_pay25 (F := Ideal) (k0_pay10 w) = plane (BitVec.ofNat 32 3) w := by
  unfold k0_pay25; rw [shapeCast_self]; rfl
theorem pay_4 (w : IVec S16x1024 32) :
    k0_pay26 (F := Ideal) (k0_pay15 (k0_pay12 w) (k0_pay13 w) k0_pay14) = plane (BitVec.ofNat 32 4) w := by
  unfold k0_pay26; rw [shapeCast_self]; rfl
theorem pay_5 (w : IVec S16x1024 32) : k0_pay27 (F := Ideal) (k0_pay16 w) = plane (BitVec.ofNat 32 5) w := by
  unfold k0_pay27; rw [shapeCast_self]; rfl
theorem pay_6 (w : IVec S16x1024 32) : k0_pay1 (F := Ideal) (k0_pay17 w) = plane (BitVec.ofNat 32 6) w := by
  unfold k0_pay1; rw [shapeCast_self]; rfl
theorem pay_7 (w : IVec S16x1024 32) :
    k0_pay2 (F := Ideal) (k0_pay21 (k0_pay19 w) (k0_pay20 w)) = plane (BitVec.ofNat 32 7) w := by
  unfold k0_pay2; rw [shapeCast_self]; rfl

/-- The store of plane `j` in trip `k`, read at an index of the scratch. -/
theorem store_at (x2 x3 : Vec Ideal S1024x1024 .i8) (k : Fin k0_t1_loop.trips) (j : Fin 8) (y : S8192x1024.Idx)
    (hin : ∀ a, k0_off1 k a + S32x1024.size a ≤ S1024x1024.size a) (l2 l3 : Vec Ideal S32x1024 .i8)
    (e2 : l2 = View.ld x2 (Rect.unit (s := S1024x1024) (k0_off1 k) S32x1024.size hin))
    (e3 : l3 = View.ld x3 (Rect.unit (s := S1024x1024) (k0_off1 k) S32x1024.size hin))
    (P : FVec Ideal S32x1024 .bf16) (hP : P = plane (BitVec.ofNat 32 j.val) (k0_pay5 (F := Ideal) l2 l3)) :
    View.TileAt (S := S8192x1024) (e := .bf16) (Val := Elt Ideal) y (k0_off2 k (BitVec.ofNat 32 (1024 * j.val))) S32x1024.size
      P (panel x2 x3 y) := by
  subst hP e2 e3
  intro x hx
  rw [k0_off2_eq] at hx
  have h0 : (y 0).val = 1024 * j.val + 32 * k.val + (x 0).val := hx 0
  have h1 : (y 1).val = 0 + (x 1).val := hx 1
  have hk : k.val < 32 := Nat.lt_of_lt_of_le k.isLt k0_t1_abs.2.1
  have hx0 : (x 0).val < 32 := (x 0).isLt
  rw [plane_apply _ _ _ j.isLt]
  have hidx : (Rect.unit (s := S1024x1024) (k0_off1 k) S32x1024.size hin).idx x
      = (ix2 ⟨(y 0).val % 1024, Nat.mod_lt _ (by decide)⟩ (y 1) : S1024x1024.Idx) := by
    funext a
    apply Fin.ext
    match a with
    | ⟨0, _⟩ =>
      show k0_off1 k 0 + 1 * (x 0).val = (y 0).val % 1024
      rw [k0_off1_eq]; show 32 * k.val + 1 * (x 0).val = _; omega
    | ⟨1, _⟩ =>
      show k0_off1 k 1 + 1 * (x 1).val = (y 1).val
      rw [k0_off1_eq]; show 0 + 1 * (x 1).val = _; omega
  show trit (x2 _) (x3 _) _ = trit _ _ _
  rw [hidx, show (y 0).val / 1024 = j.val by omega]

/-- Every store of a trip leaves the panel's weights. -/
theorem trip_at (c : Dev nD) (i : grid0.Coords) (arg2 : Memref sig .tc .smem S1 .f32) (harg2 : arg2.IsWhole) (arg3 : Memref sig .tc .vmem S512x8192 .bf16) (harg3 : arg3.IsWhole) (arg4 : Memref sig .tc .vmem S1024x1024 .i8) (harg4 : arg4.IsWhole) (arg5 : Memref sig .tc .vmem S1024x1024 .i8) (harg5 : arg5.IsWhole) (arg6 : Memref sig .tc .vmem S512x1024 .bf16) (harg6 : arg6.IsWhole) (arg7 : Memref sig .tc .vmem S8192x1024 .bf16) (harg7 : arg7.IsWhole) (h1 : k0_cond1 i = 1#1)
    (x2 x3 : Vec Ideal S1024x1024 .i8) (k : Fin k0_t1_loop.trips) (y : S8192x1024.Idx) :
    View.AllAt (tripL_k0_t1 (F := Ideal) Variants.none c none i arg2 harg2 arg3 harg3 arg4 harg4 arg5 harg5 arg6 harg6 arg7 harg7 h1
      (harg4.unread x2) (harg5.unread x3) k) y (panel x2 x3 y) := by
  unfold tripL_k0_t1 trip_k0_t1
  dsimp only
  have hin := k0_off1_inb i k h1
  have e2 : arg4.view.readAt (Elt Ideal) (Rect.unit (s := S1024x1024) (k0_off1 k) S32x1024.size hin).toLoadRect (harg4.unread x2)
      = View.ld x2 (Rect.unit (s := S1024x1024) (k0_off1 k) S32x1024.size hin) := by
    rw [View.readAt_eq_ld, harg4.read_unread]
  have e3 : arg5.view.readAt (Elt Ideal) (Rect.unit (s := S1024x1024) (k0_off1 k) S32x1024.size hin).toLoadRect (harg5.unread x3)
      = View.ld x3 (Rect.unit (s := S1024x1024) (k0_off1 k) S32x1024.size hin) := by
    rw [View.readAt_eq_ld, harg5.read_unread]
  refine View.allAt_cons_unit _ _ _ _ _ (store_at x2 x3 k 7 y hin _ _ e2 e3 _ (pay_7 _)) ?_
  refine View.allAt_cons_unit _ _ _ _ _ (store_at x2 x3 k 6 y hin _ _ e2 e3 _ (pay_6 _)) ?_
  refine View.allAt_cons_unit _ _ _ _ _ (store_at x2 x3 k 5 y hin _ _ e2 e3 _ (pay_5 _)) ?_
  refine View.allAt_cons_unit _ _ _ _ _ (store_at x2 x3 k 4 y hin _ _ e2 e3 _ (pay_4 _)) ?_
  refine View.allAt_cons_unit _ _ _ _ _ (store_at x2 x3 k 3 y hin _ _ e2 e3 _ (pay_3 _)) ?_
  refine View.allAt_cons_unit _ _ _ _ _ (store_at x2 x3 k 2 y hin _ _ e2 e3 _ (pay_2 _)) ?_
  refine View.allAt_cons_unit _ _ _ _ _ (store_at x2 x3 k 1 y hin _ _ e2 e3 _ (pay_1 _ _)) ?_
  refine View.allAt_cons_unit _ _ _ _ _ (store_at x2 x3 k 0 y hin _ _ e2 e3 _ (pay_0 _ _)) ?_
  exact View.allAt_nil _ _

/-- So does every store of the trips before `n`. -/
theorem trips_at (c : Dev nD) (i : grid0.Coords) (arg2 : Memref sig .tc .smem S1 .f32) (harg2 : arg2.IsWhole) (arg3 : Memref sig .tc .vmem S512x8192 .bf16) (harg3 : arg3.IsWhole) (arg4 : Memref sig .tc .vmem S1024x1024 .i8) (harg4 : arg4.IsWhole) (arg5 : Memref sig .tc .vmem S1024x1024 .i8) (harg5 : arg5.IsWhole) (arg6 : Memref sig .tc .vmem S512x1024 .bf16) (harg6 : arg6.IsWhole) (arg7 : Memref sig .tc .vmem S8192x1024 .bf16) (harg7 : arg7.IsWhole) (h1 : k0_cond1 i = 1#1)
    (x2 x3 : Vec Ideal S1024x1024 .i8) (y : S8192x1024.Idx) : ∀ n, n ≤ k0_t1_loop.trips →
    View.AllAt (pb_k0_t1 (F := Ideal) Variants.none c none i arg2 harg2 arg3 harg3 arg4 harg4 arg5 harg5 arg6 harg6 arg7 harg7 h1
      (harg4.unread x2) (harg5.unread x3) n) y (panel x2 x3 y)
  | 0, _ => View.allAt_nil _ _
  | n + 1, hn => by
    have e := pb_k0_t1_succ (F := Ideal) Variants.none c none i arg2 harg2 arg3 harg3 arg4 harg4 arg5 harg5 arg6 harg6 arg7 harg7 h1
      (harg4.unread x2) (harg5.unread x3) ⟨n, hn⟩
    have ih := trips_at c i arg2 harg2 arg3 harg3 arg4 harg4 arg5 harg5 arg6 harg6 arg7 harg7 h1 x2 x3 y n (Nat.le_of_succ_le hn)
    have ht := trip_at c i arg2 harg2 arg3 harg3 arg4 harg4 arg5 harg5 arg6 harg6 arg7 harg7 h1 x2 x3 ⟨n, hn⟩ y
    rw [show n + 1 = (⟨n, hn⟩ : Fin k0_t1_loop.trips).val + 1 from rfl, e]
    intro p hp
    rcases List.mem_append.mp hp with h | h
    · exact ht p h
    · exact ih p h

/-- The scratch after a first point of a panel: the panel's weights. -/
theorem sout_eq (c : Dev nD) (i : grid0.Coords) (arg2 : Memref sig .tc .smem S1 .f32) (harg2 : arg2.IsWhole) (arg3 : Memref sig .tc .vmem S512x8192 .bf16) (harg3 : arg3.IsWhole) (arg4 : Memref sig .tc .vmem S1024x1024 .i8) (harg4 : arg4.IsWhole) (arg5 : Memref sig .tc .vmem S1024x1024 .i8) (harg5 : arg5.IsWhole) (arg6 : Memref sig .tc .vmem S512x1024 .bf16) (harg6 : arg6.IsWhole) (arg7 : Memref sig .tc .vmem S8192x1024 .bf16) (harg7 : arg7.IsWhole) (hc0 : cond0_0 i)
    (x0 : Vec Ideal S1 .f32) (x1 : Vec Ideal S512x8192 .bf16) (x2 x3 : Vec Ideal S1024x1024 .i8) :
    sout0_A_0 (F := Ideal) c i arg2 harg2 arg3 harg3 arg4 harg4 arg5 harg5 arg6 harg6 arg7 harg7 hc0 x0 x1 x2 x3 = panel x2 x3 := by
  unfold sout0_A_0
  rw [View.read_writes_junk_eq_canon]
  funext y
  refine View.canon_eq_of_allAt _ y _ (scover0_A_0 c i arg2 harg2 arg3 harg3 arg4 harg4 arg5 harg5 arg6 harg6 arg7 harg7 hc0 x0 x1 x2 x3 y) ?_
  unfold kernelRun0_A
  dsimp only
  exact trips_at c i arg2 harg2 arg3 harg3 arg4 harg4 arg5 harg5 arg6 harg6 arg7 harg7 hc0 x2 x3 y _ le_rfl

end Cert.Decode

end
-- ==== Proof.Block.lean ====
/-
  The output block of a point: 512 rows of activations times the decoded panel, times the scale. The kernel computes
  it in two halves of 512 columns, at every point with the same two products. At a first point of a panel it reads
  the panel it has just decoded, at the others the panel that the point before left.
-/
module

public import proofs.«01_k».proof.Proof.Decode
public import Idealize.ShloMosaic.Lib.MatmulPlain

@[expose] public section

set_option maxRecDepth 16384

noncomputable section

namespace Cert.Block

open Idealize.ShloMosaic Idealize.ShloMosaic.TcCoe Idealize.ShloMosaic.Tactic Idealize.SL.Sem
open Idealize.ShloMosaic.ValueIdx Cert.KernelIdeal Cert.KernelIdeal.Gen Cert.Trit Cert.Decode

/-- The one index of the scale's block. -/
abbrev one : S1.Idx := ix1 0

/-- Rows of activations times a panel of weights, times the scale, at an index of the block. -/
def block (x0 : Vec Ideal S1 .f32) (x1 : Vec Ideal S512x8192 .bf16) (w : S8192x1024.Idx → EReal) (y : S512x1024.Idx) : EReal :=
  (∑ k : Fin 8192, (x1 (ix2 (y 0) k) : EReal) * w (ix2 k (y 1))) * (x0 one : EReal)

/-- The product of one half, at an index. -/
theorem pay3_apply (l1 : Vec Ideal S512x8192 .bf16) (l7 : Vec Ideal S8192x512 .bf16) (s : Elt Ideal .f32) (r : Fin 512) (q : Fin 512) :
    k0_pay3 (F := Ideal) l1 l7 s (ix2 r q) = ((∑ k : Fin 8192, (l1 (ix2 r k) : EReal) * (l7 (ix2 k q) : EReal)) * (s : EReal) : EReal) := by
  unfold k0_pay3
  rw [shapeCast_self]
  show (FloatOps.matmul (F := Ideal) (DotDims.plain 512 8192 512) none l1 l7 (constant S512x512 .f32 0x00000000#32) (ix2 r q) : EReal) * (s : EReal) = _
  rw [Ideal.matmul_plain_apply]
  show (Ideal.ofBits .f32 0x00000000#32 + _) * _ = _
  rw [Ideal.ofBits_zero_f32, zero_add]

/-- The store of a half, read at an index of the block: the half at column offset `off`. -/
theorem half_at (x0 : Vec Ideal S1 .f32) (x1 : Vec Ideal S512x8192 .bf16) (w : S8192x1024.Idx → EReal) (y : S512x1024.Idx)
    (off : ℕ) (hin : ∀ a, (![0, off] : Fin 2 → ℕ) a + S8192x512.size a ≤ S8192x1024.size a)
    (l1 : Vec Ideal S512x8192 .bf16) (l7 : Vec Ideal S8192x512 .bf16) (s : Elt Ideal .f32)
    (e1 : l1 = x1) (e7 : l7 = View.ld (Val := Elt Ideal) (e' := .bf16) w (Rect.unit (s := S8192x1024) ![0, off] S8192x512.size hin))
    (es : s = x0 one) :
    View.TileAt (S := S512x1024) (e := .bf16) (Val := Elt Ideal) y ![0, off] S512x512.size
      (k0_pay3 (F := Ideal) l1 l7 s) (block x0 x1 w y) := by
  subst e1 e7 es
  intro x hx
  have h0 : (y 0).val = 0 + (x 0).val := hx 0
  have h1 : (y 1).val = off + (x 1).val := hx 1
  have hx' : x = (ix2 (x 0) (x 1) : S512x512.Idx) := eq_ix2 x
  rw [hx']
  refine (pay3_apply _ _ _ _ _).trans ?_
  unfold block
  have er : (x 0 : Fin 512) = y 0 := Fin.ext (by omega)
  congr 1
  refine Finset.sum_congr rfl fun k _ => ?_
  have ew : (Rect.unit (s := S8192x1024) ![0, off] S8192x512.size hin).idx (ix2 k (x 1) : S8192x512.Idx) = (ix2 k (y 1) : S8192x1024.Idx) := by
    funext a
    apply Fin.ext
    match a with
    | ⟨0, _⟩ => show 0 + 1 * k.val = k.val; omega
    | ⟨1, _⟩ => show off + 1 * (x 1).val = (y 1).val; omega
  show _ * w _ = _
  rw [ew, er]

theorem pay4_eq (l1 : Vec Ideal S512x8192 .bf16) (l7 : Vec Ideal S8192x512 .bf16) (s : Elt Ideal .f32) :
    k0_pay4 (F := Ideal) l1 l7 s = k0_pay3 l1 l7 s := rfl

/-- The whole block of activations, as a load of it. -/
theorem load_x1 (arg3 : Memref sig .tc .vmem S512x8192 .bf16) (harg3 : arg3.IsWhole) (x1 : Vec Ideal S512x8192 .bf16) :
    arg3.view.readAt (Elt Ideal) (Rect.unit (s := S512x8192) ![0, 0] S512x8192.size inb_S512x8192_S512x8192_0_0).toLoadRect (harg3.unread x1) = x1 := by
  rw [View.readAt_eq_ld, harg3.read_unread, View.ld_unit_zero (S := S512x8192) (by decide)]

/-- The scale, as a load of its one element. -/
theorem load_x0 (arg2 : Memref sig .tc .smem S1 .f32) (harg2 : arg2.IsWhole) (x0 : Vec Ideal S1 .f32) (j : S1.Idx) :
    arg2.view.readAt (Elt Ideal) (Rect.unit (s := S1) ![0] S1.size inb_S1_S1_0).toLoadRect (harg2.unread x0) j = x0 one := by
  rw [View.readAt_eq_ld, harg2.read_unread, View.ld_unit_zero (S := S1) (by decide)]
  congr 1
  funext a
  match a with
  | ⟨0, _⟩ => exact Subsingleton.elim (α := Fin 1) (j 0) 0

/-- The output block at a first point of a panel. -/
theorem out_A (c : Dev nD) (i : grid0.Coords) (arg2 : Memref sig .tc .smem S1 .f32) (harg2 : arg2.IsWhole) (arg3 : Memref sig .tc .vmem S512x8192 .bf16) (harg3 : arg3.IsWhole) (arg4 : Memref sig .tc .vmem S1024x1024 .i8) (harg4 : arg4.IsWhole) (arg5 : Memref sig .tc .vmem S1024x1024 .i8) (harg5 : arg5.IsWhole) (arg6 : Memref sig .tc .vmem S512x1024 .bf16) (harg6 : arg6.IsWhole) (arg7 : Memref sig .tc .vmem S8192x1024 .bf16) (harg7 : arg7.IsWhole) (hc0 : cond0_0 i)
    (x0 : Vec Ideal S1 .f32) (x1 : Vec Ideal S512x8192 .bf16) (x2 x3 : Vec Ideal S1024x1024 .i8) :
    out0_A_4 (F := Ideal) c i arg2 harg2 arg3 harg3 arg4 harg4 arg5 harg5 arg6 harg6 arg7 harg7 hc0 x0 x1 x2 x3 = block x0 x1 (panel x2 x3) := by
  have hs := sout_eq c i arg2 harg2 arg3 harg3 arg4 harg4 arg5 harg5 arg6 harg6 arg7 harg7 hc0 x0 x1 x2 x3
  unfold sout0_A_0 at hs
  rw [View.read_writes_junk_eq_canon] at hs
  unfold kernelRun0_A at hs
  dsimp only at hs
  unfold out0_A_4
  rw [View.read_writes_junk_eq_canon]
  funext y
  refine View.canon_eq_of_allAt _ y _ (cover0_A_4 c i arg2 harg2 arg3 harg3 arg4 harg4 arg5 harg5 arg6 harg6 arg7 harg7 hc0 x0 x1 x2 x3 y) ?_
  unfold kernelRun0_A
  dsimp only
  sl_unfold_words
  refine View.allAt_cons_unit _ _ _ _ _ (half_at x0 x1 (panel x2 x3) y 512 inb_S8192x1024_S8192x512_0_512 _ _ _ (load_x1 arg3 harg3 x1) ?_ (load_x0 arg2 harg2 x0 _)) ?_
  · rw [View.readCov_eq_canon']
    funext j
    exact congrFun hs _
  refine View.allAt_cons_unit _ _ _ _ _ (half_at x0 x1 (panel x2 x3) y 0 inb_S8192x1024_S8192x512_0_0 _ _ _ (load_x1 arg3 harg3 x1) ?_ (load_x0 arg2 harg2 x0 _)) ?_
  · rw [View.readCov_eq_canon']
    funext j
    exact congrFun hs _
  exact View.allAt_nil _ _

/-- The output block at a later point of a panel, over the scratch `xs` that the point before left. -/
theorem out_B (c : Dev nD) (i : grid0.Coords) (arg2 : Memref sig .tc .smem S1 .f32) (harg2 : arg2.IsWhole) (arg3 : Memref sig .tc .vmem S512x8192 .bf16) (harg3 : arg3.IsWhole) (arg4 : Memref sig .tc .vmem S1024x1024 .i8) (harg4 : arg4.IsWhole) (arg5 : Memref sig .tc .vmem S1024x1024 .i8) (harg5 : arg5.IsWhole) (arg6 : Memref sig .tc .vmem S512x1024 .bf16) (harg6 : arg6.IsWhole) (arg7 : Memref sig .tc .vmem S8192x1024 .bf16) (harg7 : arg7.IsWhole) (hc0 : ¬cond0_0 i)
    (x0 : Vec Ideal S1 .f32) (x1 : Vec Ideal S512x8192 .bf16) (x2 x3 : Vec Ideal S1024x1024 .i8) (xs : Vec Ideal S8192x1024 .bf16) :
    out0_B_4 (F := Ideal) c i arg2 harg2 arg3 harg3 arg4 harg4 arg5 harg5 arg6 harg6 arg7 harg7 hc0 x0 x1 x2 x3 xs = block x0 x1 xs := by
  unfold out0_B_4
  rw [View.read_writes_junk_eq_canon]
  funext y
  refine View.canon_eq_of_allAt _ y _ (cover0_B_4 c i arg2 harg2 arg3 harg3 arg4 harg4 arg5 harg5 arg6 harg6 arg7 harg7 hc0 x0 x1 x2 x3 xs y) ?_
  unfold kernelRun0_B
  dsimp only
  sl_unfold_words
  refine View.allAt_cons_unit _ _ _ _ _ (half_at x0 x1 xs y 512 inb_S8192x1024_S8192x512_0_512 _ _ _ (load_x1 arg3 harg3 x1) ?_ (load_x0 arg2 harg2 x0 _)) ?_
  · rw [View.readAt_eq_ld, harg7.read_unread]
  refine View.allAt_cons_unit _ _ _ _ _ (half_at x0 x1 xs y 0 inb_S8192x1024_S8192x512_0_0 _ _ _ (load_x1 arg3 harg3 x1) ?_ (load_x0 arg2 harg2 x0 _)) ?_
  · rw [View.readAt_eq_ld, harg7.read_unread]
  exact View.allAt_nil _ _

end Cert.Block

end
-- ==== Proof.Product.lean ====
/-
  The mathematics that the kernel and the reference share: one element of the result is a row of activations times a
  column of decoded weights, times the scale.
-/
module

public import proofs.«01_k».proof.Proof.Trit

@[expose] public section

noncomputable section

namespace Cert.Product

open Idealize.ShloMosaic Cert.Trit

/-- One element of the result: the row `x` of activations times the column of weights that the byte columns `nz` and
    `sg` hold (the weight of row `k` is bit `k / 1024` of byte `k % 1024`), times the scale `s`. -/
def element (x : Fin 8192 → EReal) (nz sg : Fin 1024 → BitVec 8) (s : EReal) : EReal :=
  (∑ k : Fin 8192, x k * trit (nz ⟨k.val % 1024, Nat.mod_lt _ (by decide)⟩) (sg ⟨k.val % 1024, Nat.mod_lt _ (by decide)⟩) (k.val / 1024)) * s

/-- A sum over `a * b` indices is the double sum over quotient and remainder. -/
theorem sum_split (a b N : ℕ) (h : a * b = N) (f : Fin N → EReal) :
    ∑ k, f k = ∑ j : Fin a, ∑ r : Fin b, f ⟨r.val + b * j.val, h ▸ (finProdFinEquiv (j, r)).isLt⟩ := by
  subst h
  rw [← Equiv.sum_comp finProdFinEquiv f, Fintype.sum_prod_type]
  rfl

/-- The same element by planes: the sum over the eight bits of the sums over the byte rows. -/
theorem element_eq_planes (x : Fin 8192 → EReal) (nz sg : Fin 1024 → BitVec 8) (s : EReal) :
    element x nz sg s
      = (∑ j : Fin 8, ∑ r : Fin 1024, x ⟨j.val * 1024 + r.val, by omega⟩ * trit (nz r) (sg r) j.val) * s := by
  unfold element
  refine congrArg (fun z : EReal => z * s) ((sum_split 8 1024 8192 (by norm_num) _).trans ?_)
  refine Finset.sum_congr rfl fun j _ => Finset.sum_congr rfl fun r _ => ?_
  have hr := r.isLt
  have e0 : r.val + 1024 * j.val = j.val * 1024 + r.val := by omega
  have e1 : (r.val + 1024 * j.val) % 1024 = r.val := by omega
  have e2 : (r.val + 1024 * j.val) / 1024 = j.val := by omega
  simp only [e1, e2]
  simp only [e0]

end Cert.Product

end
-- ==== Proof.Region.lean ====
/-
  The kernel's result as one function of its arguments: the panel that the scratch carries, the output block of every
  point, the array the blocks tile, and the reshapes around the region.
-/
module

public import proofs.«01_k».proof.Proof.Block
public import proofs.«01_k».proof.Proof.Product
public import proofs.«01_k».proof.Proof.Gen.KernelIdeal.Frame
public import Idealize.ShloMosaic.Lib.Pipeline.ValueKit.Geometry

@[expose] public section

set_option maxRecDepth 16384

noncomputable section

namespace Cert.Region

open Idealize.ShloMosaic Idealize.ShloMosaic.TcCoe Idealize.ShloMosaic.Tactic Idealize.SL.Sem
open Idealize.ShloMosaic.ValueIdx Cert.KernelIdeal Cert.KernelIdeal.Gen Cert.Trit Cert.Decode Cert.Block Cert.Product

variable (m : (ℓ : Loc nD τ sig) → Buf (Elt Ideal) ℓ) (ρ : Dev nD → PrngReg)

/-! ## The blocks at their indices -/

theorem index_1 : ∀ t : Fin cfg0.N, win0_1.index t 0 = t.val % 16 ∧ win0_1.index t 1 = 0 :=
  (by decide +kernel : ∀ t : Fin grid0.N, win0_1.index t 0 = t.val % 16 ∧ win0_1.index t 1 = 0)
theorem index_2 : ∀ t : Fin cfg0.N, win0_2.index t 0 = 0 ∧ win0_2.index t 1 = t.val / 16 :=
  (by decide +kernel : ∀ t : Fin grid0.N, win0_2.index t 0 = 0 ∧ win0_2.index t 1 = t.val / 16)
theorem index_3 : ∀ t : Fin cfg0.N, win0_3.index t 0 = 0 ∧ win0_3.index t 1 = t.val / 16 :=
  (by decide +kernel : ∀ t : Fin grid0.N, win0_3.index t 0 = 0 ∧ win0_3.index t 1 = t.val / 16)
theorem index_4 : ∀ t : Fin cfg0.N, win0_4.index t 0 = t.val % 16 ∧ win0_4.index t 1 = t.val / 16 :=
  (by decide +kernel : ∀ t : Fin grid0.N, win0_4.index t 0 = t.val % 16 ∧ win0_4.index t 1 = t.val / 16)

theorem lt_N (t : Fin cfg0.N) : t.val < 400 := by
  have h : cfg0.N = 400 := N_0
  have := t.isLt
  omega

/-- The scale's block is the scale. -/
theorem iblk_0 (c : Dev nD) (t : Fin cfg0.N) : (iblk m c 0 t : Vec Ideal S1 .f32) one = V m c main_v0 (one : S1.Idx) := by
  unfold iblk
  rw [View.read_apply]
  show V m c main_v0 _ = _
  congr 1
  funext a
  match a with
  | ⟨0, _⟩ => exact Subsingleton.elim (α := Fin 1) _ _

/-- Rows `512 (t % 16) …` of the activations. -/
theorem iblk_1 (c : Dev nD) (t : Fin cfg0.N) (r : Fin 512) (k : Fin 8192) (R : Fin 8192) (hR : R.val = t.val % 16 * 512 + r.val) :
    (iblk m c 1 t : Vec Ideal S512x8192 .bf16) (ix2 r k) = V m c main_v1 (ix2 R k : S8192x8192.Idx) := by
  unfold iblk
  rw [View.read_apply]
  show V m c main_v1 _ = _
  congr 1
  funext a
  apply Fin.ext
  match a with
  | ⟨0, _⟩ => show win0_1.index t 0 * 512 + 1 * r.val = R.val; rw [(index_1 t).1]; omega
  | ⟨1, _⟩ => show win0_1.index t 1 * 8192 + 1 * k.val = k.val; rw [(index_1 t).2]; omega

/-- Columns `1024 (t / 16) …` of the first byte array. -/
theorem iblk_2 (c : Dev nD) (t : Fin cfg0.N) (r : Fin 1024) (q : Fin 1024) (C : Fin 25600) (hC : C.val = t.val / 16 * 1024 + q.val) :
    (iblk m c 2 t : Vec Ideal S1024x1024 .i8) (ix2 r q) = V m c main_arg1 (ix2 r C : S1024x25600.Idx) := by
  unfold iblk
  rw [View.read_apply]
  show V m c main_arg1 _ = _
  congr 1
  funext a
  apply Fin.ext
  match a with
  | ⟨0, _⟩ => show win0_2.index t 0 * 1024 + 1 * r.val = r.val; rw [(index_2 t).1]; omega
  | ⟨1, _⟩ => show win0_2.index t 1 * 1024 + 1 * q.val = C.val; rw [(index_2 t).2]; omega

/-- Columns `1024 (t / 16) …` of the second byte array. -/
theorem iblk_3 (c : Dev nD) (t : Fin cfg0.N) (r : Fin 1024) (q : Fin 1024) (C : Fin 25600) (hC : C.val = t.val / 16 * 1024 + q.val) :
    (iblk m c 3 t : Vec Ideal S1024x1024 .i8) (ix2 r q) = V m c main_arg2 (ix2 r C : S1024x25600.Idx) := by
  unfold iblk
  rw [View.read_apply]
  show V m c main_arg2 _ = _
  congr 1
  funext a
  apply Fin.ext
  match a with
  | ⟨0, _⟩ => show win0_3.index t 0 * 1024 + 1 * r.val = r.val; rw [(index_3 t).1]; omega
  | ⟨1, _⟩ => show win0_3.index t 1 * 1024 + 1 * q.val = C.val; rw [(index_3 t).2]; omega

/-! ## The scratch -/

/-- The panel of the columns of point `t`. -/
def panelAt (c : Dev nD) (t : Fin cfg0.N) : S8192x1024.Idx → EReal := panel (iblk m c 2 t) (iblk m c 3 t)

theorem panelAt_apply (c : Dev nD) (t : Fin cfg0.N) (k : Fin 8192) (q : Fin 1024) (C : Fin 25600) (hC : C.val = t.val / 16 * 1024 + q.val) :
    panelAt m c t (ix2 k q) = trit (V m c main_arg1 (ix2 ⟨k.val % 1024, Nat.mod_lt _ (by decide)⟩ C : S1024x25600.Idx))
      (V m c main_arg2 (ix2 ⟨k.val % 1024, Nat.mod_lt _ (by decide)⟩ C : S1024x25600.Idx)) (k.val / 1024) := by
  rw [← iblk_2 m c t _ q C hC, ← iblk_3 m c t _ q C hC]
  rfl

/-- Points of one column share the panel. -/
theorem panelAt_congr (c : Dev nD) (t t' : Fin cfg0.N) (h : t.val / 16 = t'.val / 16) : panelAt m c t = panelAt m c t' := by
  funext y
  have ey : y = (ix2 (y 0) (y 1) : S8192x1024.Idx) := eq_ix2 y
  have hq : (y 1).val < 1024 := (y 1).isLt
  have ht := lt_N t
  refine (congrArg (panelAt m c t) ey).trans (Eq.trans ?_ (congrArg (panelAt m c t') ey).symm)
  exact (panelAt_apply m c t (y 0) (y 1) ⟨t.val / 16 * 1024 + (y 1).val, by omega⟩ rfl).trans
    (panelAt_apply m c t' (y 0) (y 1) ⟨t.val / 16 * 1024 + (y 1).val, by omega⟩ (by rw [← h])).symm

/-- After every point the scratch holds the panel of the point's columns. -/
theorem scratch_eq (c : Dev nD) : ∀ (n : ℕ) (hn : n < cfg0.N), (outsAt0 m c n hn).2 = panelAt m c ⟨n, hn⟩
  | 0, hn => (congrArg Prod.snd (outsAt0_A m c ⟨0, hn⟩ rfl)).trans (sout_eq ..)
  | n + 1, hn => by
    by_cases h0 : (n + 1) % 16 = 0
    · exact (congrArg Prod.snd (outsAt0_A m c ⟨n + 1, hn⟩ h0)).trans (sout_eq ..)
    · refine (congrArg Prod.snd (outsAt0_B m c ⟨n + 1, hn⟩ h0)).trans ?_
      show (outsAt0 m c n _).2 = _
      rw [scratch_eq c n]
      exact panelAt_congr m c _ _ (by show n / 16 = (n + 1) / 16; omega)

/-- At every point the output block is the point's rows times the point's panel, times the scale. -/
theorem out_eq (c : Dev nD) (t : Fin cfg0.N) :
    (outsAt0 m c t.val t.isLt).1 = block (iblk m c 0 t) (iblk m c 1 t) (panelAt m c t) := by
  by_cases h0 : t.val % 16 = 0
  · rw [outsAt0_A m c t h0, out_A]
    rfl
  · have hn : t.val - 1 < cfg0.N := Nat.lt_of_le_of_lt (Nat.sub_le _ _) t.isLt
    have hs : (outsAt0 m c (t.val - 1) hn).2 = panelAt m c t :=
      (scratch_eq m c (t.val - 1) hn).trans (panelAt_congr m c ⟨t.val - 1, hn⟩ t (by show (t.val - 1) / 16 = t.val / 16; omega))
    rw [outsAt0_B m c t h0, out_B, hs]

/-! ## The array -/

/-- The product of all rows with all columns. -/
def result (c : Dev nD) : S8192x25600.Idx → EReal := fun i =>
  element (fun k => V m c main_v1 (ix2 (i 0) k : S8192x8192.Idx)) (fun r => V m c main_arg1 (ix2 r (i 1) : S1024x25600.Idx))
    (fun r => V m c main_arg2 (ix2 r (i 1) : S1024x25600.Idx)) (V m c main_v0 (one : S1.Idx))

/-- A block of the product, at an index of the block and the index of the array under it. -/
theorem block_eq_result (c : Dev nD) (t : Fin cfg0.N) (y : S512x1024.Idx) (i : S8192x25600.Idx)
    (h0 : (i 0).val = t.val % 16 * 512 + (y 0).val) (h1 : (i 1).val = t.val / 16 * 1024 + (y 1).val) :
    block (iblk m c 0 t) (iblk m c 1 t) (panelAt m c t) y = result m c i := by
  unfold block result element
  rw [iblk_0]
  refine congrArg (fun z : EReal => z * _) (Finset.sum_congr rfl fun k _ => ?_)
  exact congrArg₂ (fun a b : EReal => a * b) (iblk_1 m c t (y 0) k (i 0) h0) (panelAt_apply m c t k (y 1) (i 1) h1)

/-- The region leaves the product in its result. -/
theorem final_o (c : Dev nD) : (dats m 0 c).arrAt 4 cfg0.N = result m c := by
  refine (dats m 0 c).arrAt_eq_of_covers 4 _ (by decide +kernel) fun t hf y => ?_
  blk_simp
  rw [after0_4, out_eq]
  refine block_eq_result m c t _ _ ?_ ?_
  · blk_simp [index_4]
  · blk_simp [index_4]

/-! ## The reshapes around the region -/

theorem V_main_v0 (c : Dev nD) : V m c main_v0 = shapeCast S1 (m ((c : Thread nD τ).loc main_arg3)) shapeCasts_S_S1 := by
  show StableHlo.after hostOps0 _ _ = _
  after_results
  rfl

theorem V_main_v1 (c : Dev nD) : V m c main_v1 = shapeCast S8192x8192 (m ((c : Thread nD τ).loc main_arg0)) shapeCasts_S4x2048x8192_S8192x8192 := by
  show StableHlo.after hostOps0 _ _ = _
  after_results
  rfl

/-- What the reshape after the region leaves, over any contents. -/
theorem tail_eq (W : Valuation τ sig (Elt Ideal)) :
    StableHlo.after hostOps1 W (Proc.devRef .tc main_v3) = shapeCast S4x2048x25600 (W (Proc.devRef .tc main_v2)) shapeCasts_S8192x25600_S4x2048x25600 := by
  after_results
  rfl

theorem W_main_v3 (c : Dev nD) :
    Pipeline.afterTail₀ cfgs (dats m) 0 (V0 m) [hostOps1] c main_v3 = shapeCast S4x2048x25600 (result m c) shapeCasts_S8192x25600_S4x2048x25600 :=
  (tail_eq _).trans (congrArg (fun z => shapeCast S4x2048x25600 z shapeCasts_S8192x25600_S4x2048x25600)
    ((Pipeline.withArrays_arr spec0 winFacts0.arr_inj c _ _ 4).trans (final_o m c)))

/-- The kernel's result at an index. -/
theorem W_apply (c : Dev nD) (b : Fin 4) (s : Fin 2048) (n : Fin 25600) :
    Pipeline.afterTail₀ cfgs (dats m) 0 (V0 m) [hostOps1] c main_v3 (ix3 b s n : S4x2048x25600.Idx)
      = element (fun k => m ((c : Thread nD τ).loc main_arg0) (ix3 b s k : S4x2048x8192.Idx))
          (fun r => m ((c : Thread nD τ).loc main_arg1) (ix2 r n : S1024x25600.Idx))
          (fun r => m ((c : Thread nD τ).loc main_arg2) (ix2 r n : S1024x25600.Idx))
          (m ((c : Thread nD τ).loc main_arg3) (fun a => a.elim0 : S_.Idx)) := by
  have hb := b.isLt
  have hs := s.isLt
  have hx : (fun k : Fin 8192 => V m c main_v1 (ix2 ⟨b.val * 2048 + s.val, by omega⟩ k : S8192x8192.Idx))
      = fun k => m ((c : Thread nD τ).loc main_arg0) (ix3 b s k : S4x2048x8192.Idx) := by
    funext k
    rw [V_main_v1]
    exact shapeCast_apply _ _ _ (ix3 b s k : S4x2048x8192.Idx) (by rw [Shape.rowMajor_val_two, Shape.rowMajor_val_three]; rfl)
  have hc : V m c main_v0 (one : S1.Idx) = m ((c : Thread nD τ).loc main_arg3) (fun a => a.elim0 : S_.Idx) := by
    rw [V_main_v0]
    exact shapeCast_apply _ _ _ (fun a => a.elim0 : S_.Idx) rfl
  rw [W_main_v3]
  refine (shapeCast_apply _ _ _ (ix2 ⟨b.val * 2048 + s.val, by omega⟩ n : S8192x25600.Idx)
    (by rw [Shape.rowMajor_val_two, Shape.rowMajor_val_three]; rfl)).trans ?_
  exact congr (congr (congr (congrArg element hx) (funext fun r => congrFun (V_main_arg1 m c) _))
    (funext fun r => congrFun (V_main_arg2 m c) _)) hc

end Cert.Region

end
-- ==== Proof.Reference.lean ====
/-
  The reference's result at an index: the double sum of its contraction over bit planes and byte rows is the single sum
  over the weight rows.
-/
module

public import proofs.«01_k».proof.Proof.Product
public import proofs.«01_k».proof.Proof.Gen.ReferenceIdeal.Read
public import Idealize.ShloMosaic.Lib.TwoAxisContraction

@[expose] public section

set_option maxRecDepth 16384

noncomputable section

namespace Cert.Reference

open Idealize.ShloMosaic Idealize.ShloMosaic.ValueIdx Cert.ReferenceIdeal Cert.ReferenceIdeal.Read Cert.ReferenceIdeal.Gen
open Cert.Trit Cert.Product

/-- The decoded weight at plane `j`, byte row `r`, column `n`. -/
theorem weight_apply (nz sg : Vec Ideal S1024x25600 .i8) (j : Fin 8) (r : Fin 1024) (n : Fin 25600) :
    val_main_v21 (F := Ideal) nz sg (ix3 j r n) = trit (nz (ix2 r n)) (sg (ix2 r n)) j.val := by
  have e4 : idx_main_v3 (idx_main_v4 (ix3 j r n)) = (ix2 r n : S1024x25600.Idx) := by
    funext a
    match a with
    | ⟨0, _⟩ => exact Fin.ext rfl
    | ⟨1, _⟩ => exact Fin.ext rfl
  have e11 : idx_main_v10 (idx_main_v11 (ix3 j r n)) = (ix2 r n : S1024x25600.Idx) := by
    funext a
    match a with
    | ⟨0, _⟩ => exact Fin.ext rfl
    | ⟨1, _⟩ => exact Fin.ext rfl
  rw [← sitofp_trit (nz (ix2 r n)) (sg (ix2 r n)) j.val j.isLt, val_main_v21_apply, val_main_v20_apply, val_main_v8_apply,
    val_main_v19_apply, val_main_v17_apply, val_main_v15_apply, val_main_v6_apply, val_main_v13_apply,
    val_main_v4_apply, val_main_v3_apply, e4, val_main_v2_apply, val_main_v11_apply, val_main_v10_apply, e11, val_main_v9_apply,
    val_main_v5_apply, val_main_v1_apply, val_main_v0_apply, val_main_v12_apply, val_main_v1_apply, val_main_v0_apply,
    val_main_v7_apply, val_main_c_apply, val_main_v14_apply, val_main_c_0_apply, val_main_v16_apply, val_main_c_1_apply,
    val_main_v18_apply, val_main_c_2_apply]

/-- The reference's dimension numbers. -/
abbrev dims : DotDims S4x2048x8x1024 S8x1024x25600 S4x2048x25600 :=
  dot_S4x2048x8x1024_S8x1024x25600_S4x2048x25600_23_01_01_2_n_n

theorem product_apply (x : Vec Ideal S4x2048x8192 .bf16) (nz sg : Vec Ideal S1024x25600 .i8) (b : Fin 4) (s : Fin 2048) (n : Fin 25600) :
    val_main_v23 (F := Ideal) x nz sg (ix3 b s n)
      = ∑ j : Fin 8, ∑ r : Fin 1024, (x (ix3 b s ⟨j.val * 1024 + r.val, by omega⟩) : EReal) * trit (nz (ix2 r n)) (sg (ix2 r n)) j.val := by
  unfold val_main_v23
  show FloatOps.dotGeneral (F := Ideal) dims none _ _ _ _ = _
  have hr : dims.contr.rank = 2 := rfl
  have c0 : dims.contr.size ⟨0, by omega⟩ = 8 := rfl
  have c1 : dims.contr.size ⟨1, by omega⟩ = 1024 := rfl
  rw [Ideal.dotGeneral_apply, sum_contr2 dims 8 1024 hr c0 c1]
  refine Finset.sum_congr rfl fun j _ => Finset.sum_congr rfl fun r _ => ?_
  have h0 := contrEquiv2_symm_val0 dims 8 1024 hr c0 c1 (j, r)
  have h1 := contrEquiv2_symm_val1 dims 8 1024 hr c0 c1 (j, r)
  have el : dims.lhsIdx (ix3 b s n) ((contrEquiv2 dims 8 1024 hr c0 c1).symm (j, r)) = ix4 b s j r := by
    funext a
    match a with
    | ⟨0, _⟩ => exact Fin.ext rfl
    | ⟨1, _⟩ => exact Fin.ext rfl
    | ⟨2, _⟩ => exact Fin.ext h0
    | ⟨3, _⟩ => exact Fin.ext h1
  have er : dims.rhsIdx (ix3 b s n) ((contrEquiv2 dims 8 1024 hr c0 c1).symm (j, r)) = ix3 j r n := by
    funext a
    match a with
    | ⟨0, _⟩ => exact Fin.ext h0
    | ⟨1, _⟩ => exact Fin.ext h1
    | ⟨2, _⟩ => exact Fin.ext rfl
  rw [el, er, weight_apply, val_main_v22_apply]
  have ex : idx_main_v22 (ix4 b s j r) = (ix3 b s ⟨j.val * 1024 + r.val, by omega⟩ : S4x2048x8192.Idx) := by
    have hb := b.isLt
    have hs := s.isLt
    have hj := j.isLt
    have hr := r.isLt
    funext a
    apply Fin.ext
    match a with
    | ⟨0, _⟩ => show (((b.val * 2048 + s.val) * 8 + j.val) * 1024 + r.val) / 16777216 = b.val; omega
    | ⟨1, _⟩ => show (((b.val * 2048 + s.val) * 8 + j.val) * 1024 + r.val) / 8192 % 2048 = s.val; omega
    | ⟨2, _⟩ => show (((b.val * 2048 + s.val) * 8 + j.val) * 1024 + r.val) % 8192 = j.val * 1024 + r.val; omega
  rw [ex]

/-- The reference's result at an index. -/
theorem result_apply (x : Vec Ideal S4x2048x8192 .bf16) (nz sg : Vec Ideal S1024x25600 .i8) (sc : Vec Ideal S_ .f32) (b : Fin 4) (s : Fin 2048) (n : Fin 25600) :
    val_main_v26 (F := Ideal) x nz sg sc (ix3 b s n)
      = element (fun k => x (ix3 b s k)) (fun r => nz (ix2 r n)) (fun r => sg (ix2 r n)) (sc fun a => a.elim0) := by
  rw [element_eq_planes]
  refine Eq.trans (b := (val_main_v23 (F := Ideal) x nz sg (ix3 b s n) : EReal) * (val_main_v24 (F := Ideal) sc (ix3 b s n) : EReal)) rfl ?_
  rw [product_apply, val_main_v24_apply]

end Cert.Reference

end
-- ==== Proof.lean ====
/-
  The proof of `Cert.Claim` (proofs.«01_k».proof.Defs): the two kernel programs and the reference run and leave their
  arguments as they were and every semaphore at zero, the idealization rewrote nothing, and over the extended reals the
  kernel and the reference leave the same array. The two sides of the last claim meet in `Cert.Product.element`: Region.lean
  reads the kernel's result as it, Reference.lean the reference's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Region
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem Cert.Product

/-- The result array of both programs, from the kernel's arguments. -/
def value (m : (ℓ : Loc KernelIdeal.nD KernelIdeal.τ KernelIdeal.sig) → Buf (Elt Ideal) ℓ) (c : Dev KernelIdeal.nD) :
    Buf (Elt Ideal) ((c.tc : Thread KernelIdeal.nD KernelIdeal.τ).loc KernelIdeal.main_v3) :=
  Pipeline.afterTail₀ KernelIdeal.cfgs (KernelIdeal.Gen.dats m) 0 (KernelIdeal.Gen.V0 m) [KernelIdeal.Gen.hostOps1] c KernelIdeal.main_v3

/-- The reference's array is the kernel's, whenever the arguments agree. -/
theorem reference_eq_value (m : (ℓ : Loc KernelIdeal.nD KernelIdeal.τ KernelIdeal.sig) → Buf (Elt Ideal) ℓ) (c : Dev KernelIdeal.nD) :
    ReferenceIdeal.Read.val_main_v26 (F := Ideal) (m ((c.tc : Thread KernelIdeal.nD KernelIdeal.τ).loc KernelIdeal.main_arg0))
      (m ((c.tc : Thread KernelIdeal.nD KernelIdeal.τ).loc KernelIdeal.main_arg1)) (m ((c.tc : Thread KernelIdeal.nD KernelIdeal.τ).loc KernelIdeal.main_arg2))
      (m ((c.tc : Thread KernelIdeal.nD KernelIdeal.τ).loc KernelIdeal.main_arg3)) = value m c := by
  funext i
  have ei : i = (ix3 (i 0) (i 1) (i 2) : ReferenceIdeal.S4x2048x25600.Idx) := eq_ix3 i
  exact (congrArg _ ei).trans ((Reference.result_apply _ _ _ _ (i 0) (i 1) (i 2)).trans
    ((Region.W_apply m c (i 0) (i 1) (i 2)).symm.trans (congrArg (value m c) ei).symm))

/-- The kernel over the extended reals: its result array, and its arguments unchanged. -/
theorem kernel_run (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v3) = value m c
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)) := by
  have hv : θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v3) = value m c) :=
    (θ_run KernelIdeal.defs _ _).mono
      (fun _ h c => (h c).2 KernelIdeal.main_v3 (Pipeline.mem_restRefs_of KernelIdeal.main_v3 (by decide) (by decide)))
      (KernelIdeal.Gen.run_main m g)
  exact (θ_run KernelIdeal.defs _ _).mono (fun _ h c => ⟨h.1 c, h.2 c⟩) (θ_run_and hv (KernelIdeal.Gen.unchanged m g))

theorem claim : Cert.Claim := ⟨Cert.Kernel.Gen.facts, Cert.KernelIdeal.Gen.facts, Cert.ReferenceIdeal.Gen.facts,
  fun m g _ => Kernel.Gen.frame m g,
  fun m g _ => KernelIdeal.Gen.frame m g,
  fun m g _ => (θ_run ReferenceIdeal.defs _ _).mono
    (fun r h => ⟨fun c => (h c).2, sem_eq_zero_of_no_sems (by decide) r.2⟩) (ReferenceIdeal.Value.run (F := Ideal) m g),
  trivial,
  fun m g m' g' _ hm => ⟨value m, kernel_run m g,
    (θ_run ReferenceIdeal.defs _ _).mono (fun r h c => ⟨(h c).1.trans (by
      rw [ReferenceIdeal.Read.val_main_v26_eq, (hm c).1, (hm c).2.1, (hm c).2.2.1, (hm c).2.2.2]
      exact reference_eq_value m c), (h c).2⟩) (ReferenceIdeal.Value.run (F := Ideal) m' g')⟩⟩

end Cert.Proof

end
